-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x576x64 : Shape := ⟨3, ![16, 576, 64]⟩
abbrev S1024x64 : Shape := ⟨2, ![1024, 64]⟩
abbrev S_ : Shape := ⟨0, ![]⟩
abbrev S16x576 : Shape := ⟨2, ![16, 576]⟩
abbrev S16x576x1 : Shape := ⟨3, ![16, 576, 1]⟩
abbrev S1024 : Shape := ⟨1, ![1024]⟩
abbrev S1x1024 : Shape := ⟨2, ![1, 1024]⟩
abbrev S1x1x1024 : Shape := ⟨3, ![1, 1, 1024]⟩
abbrev S16x576x1024 : Shape := ⟨3, ![16, 576, 1024]⟩
abbrev S64x1024 : Shape := ⟨2, ![64, 1024]⟩

class Facts : Prop where
  reducesTo_S16x576x64_S16x576_d2 : S16x576x64.ReducesTo [2] S16x576
  h_S_ : 0 < S_.numel
  bcast_S16x576_S16x576x1_0_1 : S16x576.BroadcastsInDim S16x576x1 (![0, 1] : Fin 2 → Fin S16x576x1.rank)
  reducesTo_S1024x64_S1024_d1 : S1024x64.ReducesTo [1] S1024
  bcast_S1024_S1x1024_1 : S1024.BroadcastsInDim S1x1024 (![1] : Fin 1 → Fin S1x1024.rank)
  bcast_S1x1024_S1x1x1024_1_2 : S1x1024.BroadcastsInDim S1x1x1024 (![1, 2] : Fin 2 → Fin S1x1x1024.rank)
  bcast_S16x576x1_S16x576x1024_0_1_2 : S16x576x1.BroadcastsInDim S16x576x1024 (![0, 1, 2] : Fin 3 → Fin S16x576x1024.rank)
  bcast_S1x1x1024_S16x576x1024_0_1_2 : S1x1x1024.BroadcastsInDim S16x576x1024 (![0, 1, 2] : Fin 3 → Fin S16x576x1024.rank)
  transposes_S1024x64_S64x1024_1_0 : S1024x64.Transposes [1, 0] S64x1024
  bcast_S_S16x576x1024 : S_.BroadcastsInDim S16x576x1024 (![] : Fin 0 → Fin S16x576x1024.rank)
  reducesTo_S16x576x1024_S16x576_d2 : S16x576x1024.ReducesTo [2] S16x576
  natLt_1_32 : 1 < 32
  bcast_S_S16x576 : S_.BroadcastsInDim S16x576 (![] : Fin 0 → Fin S16x576.rank)
  dot_S16x576x64_S64x1024_S16x576x1024_2_0_01_1_n_n_wf : DotDims.WF S16x576x64 S64x1024 S16x576x1024 [2] [0] [0, 1] [1] [] []

variable [Facts]

def dot_S16x576x64_S64x1024_S16x576x1024_2_0_01_1_n_n : DotDims S16x576x64 S64x1024 S16x576x1024 where
  lhsContracting := [2]
  rhsContracting := [0]
  lhsNonContracting := [0, 1]
  rhsNonContracting := [1]
  lhsBatch := []
  rhsBatch := []
  wf := dot_S16x576x64_S64x1024_S16x576x1024_2_0_01_1_n_n_wf
def fn_part1 {F : FTy → Type} [FloatOps F] (main_v19 : IVec S16x576x1024 32) : IVec S16x576 1 :=
  let main_c : IVec S_ 32 := constantI S_ 32 0#32
  let main_v20 : IVec S16x576 32 := (fun x v => Host.reduce IntOp.addi x v reducesTo_S16x576x1024_S16x576_d2 h_S_) main_v19 main_c
  let main_c_3 : IVec S_ 32 := constantI S_ 32 1#32
  let main_v21 : IVec S16x576 32 := broadcastInDim S16x576 ![] bcast_S_S16x576 main_c_3
  let main_v22 : IVec S16x576 1 := cmpi .eq main_v20 main_v21
  main_v22

def fn {F : FTy → Type} [FloatOps F] (main_arg0 : FVec F S16x576x64 .f32) (main_arg1 : FVec F S1024x64 .f32) : IVec S16x576 1 :=
  let main_v0 : FVec F S16x576x64 .f32 := mulf main_arg0 main_arg0
  let main_cst : FVec F S_ .f32 := constant S_ .f32 0x00000000#32
  let main_v1 : FVec F S16x576 .f32 := (fun x v => Host.reduceAdd x v reducesTo_S16x576x64_S16x576_d2 h_S_) main_v0 main_cst
  let main_v2 : FVec F S16x576x1 .f32 := broadcastInDim S16x576x1 ![0, 1] bcast_S16x576_S16x576x1_0_1 main_v1
  let main_v3 : FVec F S1024x64 .f32 := mulf main_arg1 main_arg1
  let main_cst_0 : FVec F S_ .f32 := constant S_ .f32 0x00000000#32
  let main_v4 : FVec F S1024 .f32 := (fun x v => Host.reduceAdd x v reducesTo_S1024x64_S1024_d1 h_S_) main_v3 main_cst_0
  let main_v5 : FVec F S1x1024 .f32 := broadcastInDim S1x1024 ![1] bcast_S1024_S1x1024_1 main_v4
  let main_v6 : FVec F S1x1x1024 .f32 := broadcastInDim S1x1x1024 ![1, 2] bcast_S1x1024_S1x1x1024_1_2 main_v5
  let main_v7 : FVec F S16x576x1024 .f32 := broadcastInDim S16x576x1024 ![0, 1, 2] bcast_S16x576x1_S16x576x1024_0_1_2 main_v2
  let main_v8 : FVec F S16x576x1024 .f32 := broadcastInDim S16x576x1024 ![0, 1, 2] bcast_S1x1x1024_S16x576x1024_0_1_2 main_v6
  let main_v9 : FVec F S16x576x1024 .f32 := addf main_v7 main_v8
  let main_v10 : FVec F S64x1024 .f32 := (transpose S64x1024 [1, 0] · transposes_S1024x64_S64x1024_1_0) main_arg1
  let main_v11 : FVec F S16x576x1024 .f32 := (fun l r => Host.dotGeneral dot_S16x576x64_S64x1024_S16x576x1024_2_0_01_1_n_n none l r) main_arg0 main_v10
  let main_cst_1 : FVec F S_ .f32 := constant S_ .f32 0x40000000#32
  let main_v12 : FVec F S16x576x1024 .f32 := broadcastInDim S16x576x1024 ![] bcast_S_S16x576x1024 main_cst_1
  let main_v13 : FVec F S16x576x1024 .f32 := mulf main_v12 main_v11
  let main_v14 : FVec F S16x576x1024 .f32 := subf main_v9 main_v13
  let main_cst_2 : FVec F S_ .f32 := constant S_ .f32 0x7F800000#32
  let main_v15 : FVec F S16x576 .f32 := (fun x v => Host.reduce FloatOps.minimumf x v reducesTo_S16x576x1024_S16x576_d2 h_S_) main_v14 main_cst_2
  let main_v16 : FVec F S16x576x1 .f32 := broadcastInDim S16x576x1 ![0, 1] bcast_S16x576_S16x576x1_0_1 main_v15
  let main_v17 : FVec F S16x576x1024 .f32 := broadcastInDim S16x576x1024 ![0, 1, 2] bcast_S16x576x1_S16x576x1024_0_1_2 main_v16
  let main_v18 : IVec S16x576x1024 1 := cmpf .oeq main_v14 main_v17
  let main_v19 : IVec S16x576x1024 32 := (extui 32 · natLt_1_32) main_v18
  fn_part1 (F := F) main_v19
-- ==== Kernel.lean ====
abbrev S16x576x64 : Shape := ⟨3, ![16, 576, 64]⟩
abbrev S1024x64 : Shape := ⟨2, ![1024, 64]⟩
abbrev S16x64x576 : Shape := ⟨3, ![16, 64, 576]⟩
abbrev S64x1024 : Shape := ⟨2, ![64, 1024]⟩
abbrev S16x1x576 : Shape := ⟨3, ![16, 1, 576]⟩
abbrev S1024 : Shape := ⟨1, ![1024]⟩
abbrev S1x1024 : Shape := ⟨2, ![1, 1024]⟩
abbrev S1024x1 : Shape := ⟨2, ![1024, 1]⟩
abbrev S1x64x576 : Shape := ⟨3, ![1, 64, 576]⟩
abbrev S64x576 : Shape := ⟨2, ![64, 576]⟩
abbrev S64x2304 : Shape := ⟨2, ![64, 2304]⟩
abbrev S2304 : Shape := ⟨1, ![2304]⟩
abbrev S1x2304 : Shape := ⟨2, ![1, 2304]⟩
abbrev S1024x2304 : Shape := ⟨2, ![1024, 2304]⟩
abbrev S576 : Shape := ⟨1, ![576]⟩
abbrev S1x1x576 : Shape := ⟨3, ![1, 1, 576]⟩
abbrev S16x576 : Shape := ⟨2, ![16, 576]⟩

abbrev nBuf : Space → Nat
  | .hbm => 6
  | .vmem => 3
  | .smem => 0
  | _ => 0

abbrev bufTy : (tb : Table) → Fin (tcTables nBuf tb) → BufTy
  | .hbm, ⟨0, _⟩ => ⟨S16x576x64, .f32⟩
  | .hbm, ⟨1, _⟩ => ⟨S1024x64, .f32⟩
  | .hbm, ⟨2, _⟩ => ⟨S16x64x576, .f32⟩
  | .hbm, ⟨3, _⟩ => ⟨S64x1024, .f32⟩
  | .hbm, ⟨4, _⟩ => ⟨S16x1x576, .i32⟩
  | .hbm, ⟨5, _⟩ => ⟨S16x576, .i32⟩
  | .local _ .vmem, ⟨0, _⟩ => ⟨S16x64x576, .f32⟩
  | .local _ .vmem, ⟨1, _⟩ => ⟨S64x1024, .f32⟩
  | .local _ .vmem, ⟨2, _⟩ => ⟨S16x1x576, .i32⟩
  | _, _ => ⟨S16x576x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x64x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1x576 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceIdeal.lean ====
abbrev S16x576x64 : Shape := ⟨3, ![16, 576, 64]⟩
abbrev S1024x64 : Shape := ⟨2, ![1024, 64]⟩
abbrev S_ : Shape := ⟨0, ![]⟩
abbrev S16x576 : Shape := ⟨2, ![16, 576]⟩
abbrev S16x576x1 : Shape := ⟨3, ![16, 576, 1]⟩
abbrev S1024 : Shape := ⟨1, ![1024]⟩
abbrev S1x1024 : Shape := ⟨2, ![1, 1024]⟩
abbrev S1x1x1024 : Shape := ⟨3, ![1, 1, 1024]⟩
abbrev S16x576x1024 : Shape := ⟨3, ![16, 576, 1024]⟩
abbrev S64x1024 : Shape := ⟨2, ![64, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S1024x64, .f32⟩
  | .hbm, ⟨2, _⟩ => ⟨S16x576x64, .f32⟩
  | .hbm, ⟨3, _⟩ => ⟨S_, .f32⟩
  | .hbm, ⟨4, _⟩ => ⟨S16x576, .f32⟩
  | .hbm, ⟨5, _⟩ => ⟨S16x576x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S16x576x1024, .f32⟩
  | .hbm, ⟨12, _⟩ => ⟨S16x576x1024, .f32⟩
  | .hbm, ⟨13, _⟩ => ⟨S16x576x1024, .f32⟩
  | .hbm, ⟨14, _⟩ => ⟨S64x1024, .f32⟩
  | .hbm, ⟨15, _⟩ => ⟨S16x576x1024, .f32⟩
  | .hbm, ⟨16, _⟩ => ⟨S_, .f32⟩
  | .hbm, ⟨17, _⟩ => ⟨S16x576x1024, .f32⟩
  | .hbm, ⟨18, _⟩ => ⟨S16x576x1024, .f32⟩
  | .hbm, ⟨19, _⟩ => ⟨S16x576x1024, .f32⟩
  | .hbm, ⟨20, _⟩ => ⟨S16x576x1024, .i32⟩
  | .hbm, ⟨21, _⟩ => ⟨S_, .f32⟩
  | .hbm, ⟨22, _⟩ => ⟨S_, .i32⟩
  | .hbm, ⟨23, _⟩ => ⟨S16x576, .f32⟩
  | .hbm, ⟨24, _⟩ => ⟨S16x576, .i32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.LeastArg.lean ====
/-
  The first least position of a row of extended reals, and two programs' ways of computing it: the kernel's index
  reduction, and the reference's left fold over pairs (value, position).
-/
module

public import proofs.«01_k».proof.Defs
public import Idealize.ShloMosaic.Lib.Pointwise

@[expose] public section

noncomputable section

set_option Elab.async false

namespace Cert.LeastArg

open Idealize.ShloMosaic

/-- `i` is the first position at which `f` is least. -/
def IsLeastArg {n : ℕ} (f : Fin n → EReal) (i : Fin n) : Prop := ∀ k, f i < f k ∨ f i = f k ∧ i ≤ k

/-- A nonempty row has a first least position. -/
theorem exists_isLeastArg {n : ℕ} [NeZero n] (f : Fin n → EReal) : ∃ i, IsLeastArg f i := by
  obtain ⟨i, -, hi⟩ := Finset.exists_min_image Finset.univ (fun k => toLex (f k, k)) ⟨0, Finset.mem_univ _⟩
  exact ⟨i, fun k => Prod.Lex.toLex_le_toLex.mp (hi k (Finset.mem_univ k))⟩

/-- The first least position of a nonempty row. -/
def leastArg {n : ℕ} [NeZero n] (f : Fin n → EReal) : Fin n := (exists_isLeastArg f).choose

/-- The first least position is one. -/
theorem leastArg_spec {n : ℕ} [NeZero n] (f : Fin n → EReal) : IsLeastArg f (leastArg f) :=
  (exists_isLeastArg f).choose_spec

/-- The index reduction by least value, at a result index whose fiber is listed by `e` in the order of the reduced
    coordinate, gives the first least position of the values along the fiber. -/
theorem reduceIndex_eq {s t : Shape} {axis : Fin s.rank} (h : s.Reduces [axis] t) (x : s.Idx → EReal) (j : t.Idx)
    {n : ℕ} [NeZero n] (e : Fin n → s.Idx) (he : ∀ i, h.drop i = j ↔ ∃ k, e k = i) (hc : ∀ k, (e k axis).val = k.val) :
    Ideal.reduceIndex .argMin axis h x j = BitVec.ofNat 32 (leastArg fun k => x (e k)) := by
  have hi := leastArg_spec fun k => x (e k)
  generalize leastArg (fun k => x (e k)) = i at hi ⊢
  unfold Ideal.reduceIndex
  simp only [reduceCtorEq, if_false]
  refine congrArg (BitVec.ofNat 32) ?_
  have hmin : Finset.min (((Finset.univ.filter (fun i : s.Idx => h.drop i = j)).filter (fun i =>
      ∀ i' ∈ Finset.univ.filter (fun i : s.Idx => h.drop i = j), ¬ x i' < x i)).image fun i => (i axis).val)
        = ((i.val : ℕ) : WithTop ℕ) := by
    refine le_antisymm (Finset.min_le (Finset.mem_image.mpr ⟨e i, ?_, hc i⟩)) (Finset.le_min fun a ha => ?_)
    · simp only [Finset.mem_filter, Finset.mem_univ, true_and]
      refine ⟨(he _).mpr ⟨i, rfl⟩, fun i' hi' => ?_⟩
      obtain ⟨k, rfl⟩ := (he i').mp hi'
      rcases hi k with hk | hk
      · exact not_lt.mpr hk.le
      · exact not_lt.mpr hk.1.le
    · obtain ⟨i', hi', rfl⟩ := Finset.mem_image.mp ha
      simp only [Finset.mem_filter, Finset.mem_univ, true_and] at hi'
      obtain ⟨k, rfl⟩ := (he i').mp hi'.1
      rw [hc]
      rcases hi k with hk | hk
      · exact absurd hk (hi'.2 _ ((he _).mpr ⟨i, rfl⟩))
      · exact WithTop.coe_le_coe.mpr hk.2
  convert congrArg (fun o : WithTop ℕ => Option.getD o 0) hmin using 1
  congr!

/-- A pair comes before another or equals it: by value, and at one value by position. -/
def Before (a b : EReal × BitVec 32) : Prop := a.1 < b.1 ∨ a.1 = b.1 ∧ a.2.toInt ≤ b.2.toInt

theorem Before.refl (a : EReal × BitVec 32) : Before a a := .inr ⟨rfl, le_rfl⟩

theorem Before.trans {a b c : EReal × BitVec 32} (h : Before a b) (h' : Before b c) : Before a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reference's body keeps that one of its two pairs that comes before the other. -/
theorem reducer_spec (a b : EReal × BitVec 32) :
    (ReferenceIdeal.reducer_argmin_f32_i32 (F := Ideal) a b = a ∧ Before a b)
      ∨ (ReferenceIdeal.reducer_argmin_f32_i32 (F := Ideal) a b = b ∧ Before b a) := by
  obtain ⟨a, i⟩ := a
  obtain ⟨b, k⟩ := b
  simp only [ReferenceIdeal.reducer_argmin_f32_i32, Ideal.cmpf_def, Ideal.cmp, Before]
  rcases lt_trichotomy a b with h | h | h
  · left
    simp [h, h.ne, IntOp.ori, IntOp.andi, Scalar.select]
  · subst h
    by_cases hk : i.toInt < k.toInt
    · left
      have : IntOp.cmpi .slt i k = 1#1 := by simp [IntOp.cmpi, BitVec.slt, hk]
      simp [this, IntOp.ori, IntOp.andi, Scalar.select, hk.le]
    · right
      have : IntOp.cmpi .slt i k = 0#1 := by simp [IntOp.cmpi, BitVec.slt, hk]
      simp [this, IntOp.ori, IntOp.andi, Scalar.select, not_lt.mp hk]
  · right
    simp [h.not_gt, h.ne', h, IntOp.ori, IntOp.andi, Scalar.select]

/-- The left fold of that body gives one of the pairs it met, and that pair comes before all of them. -/
theorem foldl_spec (L : List (EReal × BitVec 32)) : ∀ p : EReal × BitVec 32,
    L.foldl (ReferenceIdeal.reducer_argmin_f32_i32 (F := Ideal)) p ∈ p :: L
      ∧ ∀ q ∈ p :: L, Before (L.foldl (ReferenceIdeal.reducer_argmin_f32_i32 (F := Ideal)) p) q := by
  induction L with
  | nil => intro p; simp [Before.refl]
  | cons a L ih =>
    intro p
    rw [List.foldl_cons]
    obtain ⟨hm, hb⟩ := ih (ReferenceIdeal.reducer_argmin_f32_i32 (F := Ideal) p a)
    have hr := hb _ List.mem_cons_self
    rcases reducer_spec p a with ⟨e, h⟩ | ⟨e, h⟩ <;> rw [e] at hm hb hr ⊢
    · refine ⟨?_, fun q hq => ?_⟩
      · rcases List.mem_cons.mp hm with h | h
        · rw [h]; exact List.mem_cons_self
        · exact List.mem_cons_of_mem _ (List.mem_cons_of_mem _ h)
      · rcases List.mem_cons.mp hq with rfl | hq
        · exact hr
        · rcases List.mem_cons.mp hq with rfl | hq
          · exact hr.trans h
          · exact hb q (List.mem_cons_of_mem _ hq)
    · refine ⟨List.mem_cons_of_mem _ hm, fun q hq => ?_⟩
      rcases List.mem_cons.mp hq with rfl | hq
      · exact hr.trans h
      · exact hb q hq

/-- The reference's fold over a fiber listed by `e`, whose positions are the reduced coordinates, from the pair of the
    greatest value and position zero, gives the first least position of the values along the fiber. -/
theorem argReduce_eq {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    {n : ℕ} [NeZero n] (hn : n ≤ 2 ^ 31) (e : Fin n → s.Idx) (he : ∀ i, h.drop i = j ↔ ∃ k, e k = i)
    (hy : ∀ k, y (e k) = BitVec.ofNat 32 k) (hx : ix (Shape.Idx.first hu) = (⊤ : EReal))
    (hz : iy (Shape.Idx.first hu) = 0#32) :
    (Host.argReduce ReferenceIdeal.reducer_argmin_f32_i32 x y ix iy h hu j).2
      = BitVec.ofNat 32 (leastArg fun k => (x (e k) : EReal)) := by
  have hi := leastArg_spec fun k => (x (e k) : EReal)
  generalize leastArg (fun k => (x (e k) : EReal)) = i at hi ⊢
  have hint : ∀ k : Fin n, (BitVec.ofNat 32 k.val).toInt = k.val := fun k => by
    have := k.isLt
    rw [BitVec.toInt_ofNat', Int.bmod_def]; omega
  have hmem : ∀ q, q ∈ Host.argReduceFiber x y h j ↔ ∃ k : Fin n, q = (x (e k), BitVec.ofNat 32 k.val) := by
    intro q
    simp only [Host.argReduceFiber, List.mem_map, List.mem_filter, List.mem_finRange, true_and, decide_eq_true_eq]
    constructor
    · rintro ⟨r, hr, rfl⟩
      obtain ⟨k, hk⟩ := (he _).mp hr
      exact ⟨k, by rw [← hk, hy]⟩
    · rintro ⟨k, rfl⟩
      exact ⟨s.rowMajor (e k), by rw [Equiv.symm_apply_apply]; exact (he _).mpr ⟨k, rfl⟩, by
        rw [Equiv.symm_apply_apply, hy]⟩
  rw [Ideal.argReduce_eq_reduce2, Host.reduce2_eq_foldl_fiber, hx, hz]
  obtain ⟨hm, hb⟩ := foldl_spec (Host.argReduceFiber x y h j) ((⊤ : EReal), 0#32)
  generalize List.foldl _ _ (Host.argReduceFiber x y h j) = r at hm hb ⊢
  have hri := hb _ (List.mem_cons_of_mem _ ((hmem _).mpr ⟨i, rfl⟩))
  rcases List.mem_cons.mp hm with rfl | hm
  · rcases hri with hri | ⟨hri, -⟩
    · exact absurd hri not_top_lt
    · replace hri : (⊤ : EReal) = x (e i) := hri
      rcases hi 0 with h0 | ⟨-, h0⟩
      · exact absurd (lt_of_eq_of_lt hri h0) not_top_lt
      · rw [show i = 0 from le_antisymm h0 (Fin.zero_le _)]; rfl
  · obtain ⟨k, rfl⟩ := (hmem _).mp hm
    rcases hri with hri | ⟨hri, hle⟩
    · rcases hi k with hk | ⟨hk, -⟩
      · exact absurd hk hri.not_gt
      · exact absurd hk hri.ne'
    · simp only [hint, Nat.cast_le] at hle
      rcases hi k with hk | ⟨-, hk⟩
      · exact absurd hri hk.ne'
      · rw [show k = i from le_antisymm hle hk]

end Cert.LeastArg

end
-- ==== Proof.Distance.lean ====
/-
  What both programs compute: each row is assigned the first centroid at the least squared distance, the distance in its
  expanded form over the extended reals.
-/
module

public import proofs.«01_k».proof.Proof.LeastArg

@[expose] public section

noncomputable section

set_option Elab.async false

namespace Cert.Distance

open Idealize.ShloMosaic Cert.LeastArg

/-- The squared distance of row `r` of batch `b` from centroid `c`: the two squared norms less twice the inner product. -/
def sqDist (X : FVec Ideal ⟨3, ![16, 576, 64]⟩ .f32) (C : FVec Ideal ⟨2, ![1024, 64]⟩ .f32) (b : Fin 16) (r : Fin 576)
    (c : Fin 1024) : EReal :=
  (∑ k : Fin 64, X (ix3 b r k) * X (ix3 b r k) + ∑ k : Fin 64, C (ix2 c k) * C (ix2 c k))
    - 2 * ∑ k : Fin 64, X (ix3 b r k) * C (ix2 c k)

/-- The first centroid at the least distance, as the word both programs store. -/
def nearest (X : FVec Ideal ⟨3, ![16, 576, 64]⟩ .f32) (C : FVec Ideal ⟨2, ![1024, 64]⟩ .f32) (b : Fin 16) (r : Fin 576) :
    BitVec 32 :=
  BitVec.ofNat 32 (leastArg (sqDist X C b r))

/-- Doubling a factor of each term of a finite sum of products doubles the sum, infinite terms included. -/
theorem sum_double {ι : Type} [Fintype ι] (a x : ι → EReal) : ∑ k, (a k + a k) * x k = 2 * ∑ k, x k * a k := by
  have two : ∀ y z : EReal, 2 * (y + z) = 2 * y + 2 * z :=
    EReal.left_distrib_of_nonneg_of_ne_top (by norm_num) (by decide)
  have h (k : ι) : (a k + a k) * x k = 2 * (x k * a k) := by
    have : a k + a k = 2 * a k := by
      rw [← one_add_one_eq_two, EReal.right_distrib_of_nonneg zero_le_one zero_le_one, one_mul]
    rw [this, mul_assoc, mul_comm (a k)]
  simp only [h]
  let d : EReal →+ EReal := ⟨⟨fun y => 2 * y, mul_zero 2⟩, two⟩
  exact (map_sum d _ _).symm

end Cert.Distance

end
-- ==== Proof.RefValue.lean ====
/-
  What the reference computes: its distances read at an index, and its result array.
-/
module

public import proofs.«01_k».proof.Proof.Gen.ReferenceIdeal
public import proofs.«01_k».proof.Proof.Distance

@[expose] public section

noncomputable section

set_option Elab.async false

namespace Cert.ReferenceIdeal.RefValue

open Idealize.ShloMosaic Cert.ReferenceIdeal Cert.ReferenceIdeal.Gen Cert.LeastArg Cert.Distance

/-- The pattern of the scale is the number two. -/
theorem ofBits_two : Ideal.ofBits .f32 0x40000000#32 = 2 := by
  rw [show (2 : EReal) = ((2 : ℝ) : EReal) by norm_cast]
  simp [Ideal.ofBits, Ideal.ieee, -EReal.coe_mul]; norm_num

/-- The pattern that starts the comparison is the greatest value. -/
theorem ofBits_top : Ideal.ofBits .f32 0x7F800000#32 = ⊤ := by
  simp [Ideal.ofBits, Ideal.ieee]

/-- The reference's array of distances, in its own operations. -/
def dists (X : FVec Ideal S16x576x64 .f32) (C : FVec Ideal S1024x64 .f32) : FVec Ideal S16x576x1024 .f32 :=
  subf
    (addf
      (broadcastInDim S16x576x1024 ![0, 1, 2] bcast_S16x576x1_S16x576x1024_0_1_2
        (broadcastInDim S16x576x1 ![0, 1] bcast_S16x576_S16x576x1_0_1
          (Host.reduceAdd (mulf X X) (constant S_ .f32 0x00000000#32) reducesTo_S16x576x64_S16x576_d2 h_S_)))
      (broadcastInDim S16x576x1024 ![0, 1, 2] bcast_S1x1x1024_S16x576x1024_0_1_2
        (broadcastInDim S1x1x1024 ![1, 2] bcast_S1x1024_S1x1x1024_1_2
          (broadcastInDim S1x1024 ![1] bcast_S1024_S1x1024_1
            (Host.reduceAdd (mulf C C) (constant S_ .f32 0x00000000#32) reducesTo_S1024x64_S1024_d1 h_S_)))))
    (mulf (broadcastInDim S16x576x1024 ![] bcast_S_S16x576x1024 (constant S_ .f32 0x40000000#32))
      (Host.dotGeneral dot_S16x576x64_S64x1024_S16x576x1024_2_0_01_1_n_n none X
        (transpose S64x1024 [1, 0] C transposes_S1024x64_S64x1024_1_0)))

/-- At an index the reference's distance is `sqDist`. -/
theorem dists_apply (X : FVec Ideal S16x576x64 .f32) (C : FVec Ideal S1024x64 .f32) (b : Fin 16) (r : Fin 576)
    (c : Fin 1024) : dists X C (ix3 b r c) = sqDist X C b r c := by
  pointwise [dists, sqDist, ofBits_two]

/-- The reference's result array, in its own operations, holds `nearest` at every index. -/
theorem result_eq (X : FVec Ideal S16x576x64 .f32) (C : FVec Ideal S1024x64 .f32) :
    (fun j => (Host.argReduce reducer_argmin_f32_i32 (dists X C) (iotaInDim S16x576x1024 32 2)
      (constant (F := Ideal) S_ .f32 0x7F800000#32) (constantI S_ 32 0#32) reducesTo_S16x576x1024_S16x576_d2 h_S_ j).2)
      = fun j : S16x576.Idx => nearest X C (j 0) (j 1) := by
  funext j
  rw [argReduce_eq (dists X C) _ _ _ reducesTo_S16x576x1024_S16x576_d2 h_S_ j (n := 1024) (by norm_num) _
    (Shape.ReducesTo.fiber_r3_a2 reducesTo_S16x576x1024_S16x576_d2 j) (fun k => rfl) ofBits_top rfl]
  exact congrArg (fun f => BitVec.ofNat 32 (leastArg f).val) (funext fun k => dists_apply X C (j 0) (j 1) k)

end Cert.ReferenceIdeal.RefValue

end
-- ==== Proof.KernelBlock.lean ====
/-
  What the kernel's body stores, from the contents of its two input blocks: row `r` of batch `b` receives the first
  centroid at the least distance. The body takes the sixteen batches in four groups of four, each group one index
  reduction over the four batches' columns side by side.
-/
module

public import proofs.«01_k».proof.Proof.Gen.KernelIdeal.Frame
public import Idealize.ShloMosaic.Lib.Pipeline.Value
public import proofs.«01_k».proof.Proof.Distance

@[expose] public section

noncomputable section

set_option Elab.async false

namespace Cert.KernelIdeal.Block

open Idealize.ShloMosaic Cert.KernelIdeal Cert.KernelIdeal.Gen Cert.LeastArg Cert.Distance

/-- Batch `b` of the input block, as the body loads it. -/
def batchIn (b : Fin 16) : Rect S16x64x576 :=
  Rect.unit (s := S16x64x576) ![b.val, 0, 0] S1x64x576.size fun a => by
    have := b.isLt
    match a with
    | ⟨0, _⟩ => show b.val + 1 ≤ 16; omega
    | ⟨1, _⟩ => exact le_rfl
    | ⟨2, _⟩ => exact le_rfl

/-- Batch `b` of the output block, as the body stores it. -/
def batchOut (b : Fin 16) : Rect S16x1x576 :=
  Rect.unit (s := S16x1x576) ![b.val, 0, 0] S1x1x576.size fun a => by
    have := b.isLt
    match a with
    | ⟨0, _⟩ => show b.val + 1 ≤ 16; omega
    | ⟨1, _⟩ => exact le_rfl
    | ⟨2, _⟩ => exact le_rfl

/-- Batch `i` of group `g`. -/
def member (g i : Fin 4) : Fin 16 := ⟨4 * g.val + i.val, by omega⟩

/-- The index reduction of group `g`: one position for each column of its four batches. -/
def groupArg (x0 : Vec Ideal S16x64x576 .f32) (x1 : Vec Ideal S64x1024 .f32) (g : Fin 4) : IVec S2304 32 :=
  k0_pay14 (k0_pay6 (View.ld x1 r0_0)) (k0_pay7 (View.ld x1 r0_0)) (View.ld x0 (batchIn (member g 0)))
    (View.ld x0 (batchIn (member g 1))) (View.ld x0 (batchIn (member g 2))) (View.ld x0 (batchIn (member g 3)))

/-- The columns of batch `b` lie inside its group's. -/
theorem slices_group (i : Fin 4) : S2304.Slices ![576 * i.val] S576 := by revert i; decide

/-- What the body stores for batch `b`: its columns of its group's positions. -/
def stored (x0 : Vec Ideal S16x64x576 .f32) (x1 : Vec Ideal S64x1024 .f32) (b : Fin 16) : IVec S1x1x576 32 :=
  shapeCast S1x1x576
    (extractStridedSlice S576 ![576 * (b.val % 4)] (groupArg x0 x1 ⟨b.val / 4, by omega⟩) (slices_group ⟨b.val % 4, by omega⟩))
    shapeCasts_S576_S1x1x576

/-- The output block after the body is made of these sixteen stores, the last first. -/
theorem out_eq (x0 : Vec Ideal S16x64x576 .f32) (x1 : Vec Ideal S64x1024 .f32) :
    out0_2 x0 x1 = View.canon (List.ofFn fun b : Fin 16 => ⟨batchOut b.rev, stored x0 x1 b.rev⟩) := by
  rfl

/-- Four batches side by side, as the body puts them, read at column `r` of batch `i`. -/
theorem concat_apply (a : Fin 4 → Vec Ideal S1x64x576 .f32) (i : Fin 4) (k : Fin 64) (r : Fin 576) :
    (have b0 : FVec Ideal S64x576 .f32 := shapeCast S64x576 (a 0) shapeCasts_S1x64x576_S64x576
     have b1 : FVec Ideal S64x576 .f32 := shapeCast S64x576 (a 1) shapeCasts_S1x64x576_S64x576
     have b2 : FVec Ideal S64x576 .f32 := shapeCast S64x576 (a 2) shapeCasts_S1x64x576_S64x576
     have b3 : FVec Ideal S64x576 .f32 := shapeCast S64x576 (a 3) shapeCasts_S1x64x576_S64x576
     have v : FVec Ideal S64x2304 .f32 := concatenate S64x2304 1 [⟨S64x576, b0⟩, ⟨S64x576, b1⟩, ⟨S64x576, b2⟩, ⟨S64x576, b3⟩]
       concatenates_S64x576_S64x576_S64x576_S64x576_S64x2304_d1
     v) (ix2 k ⟨576 * i.val + r.val, by omega⟩) = a i (ix3 0 k r) := by
  have := r.isLt
  match i with
  | 0 => pointwise
  | 1 => pointwise
  | 2 =>
    pointwise
    rw [dif_neg (by omega), dif_neg (by omega), dif_pos (by omega)]
    exact congrArg (fun q => a 2 (ix3 0 k q)) (Fin.ext (by dsimp only; omega))
  | 3 =>
    pointwise
    rw [dif_neg (by omega), dif_neg (by omega), dif_neg (by omega)]
    exact congrArg (fun q => a 3 (ix3 0 k q)) (Fin.ext (by dsimp only; omega))

/-- The positions of group `g` at column `r` of its batch `i`, over input blocks that hold `X` and `C` transposed. -/
theorem groupArg_apply (x0 : Vec Ideal S16x64x576 .f32) (x1 : Vec Ideal S64x1024 .f32) (X : FVec Ideal S16x576x64 .f32)
    (C : FVec Ideal S1024x64 .f32) (h0 : ∀ b k r, x0 (ix3 b k r) = X (ix3 b r k)) (h1 : ∀ k c, x1 (ix2 k c) = C (ix2 c k))
    (g i : Fin 4) (r : Fin 576) :
    groupArg x0 x1 g (ix1 ⟨576 * i.val + r.val, by omega⟩) = nearest X C (member g i) r := by
  have hcat := concat_apply (fun n => View.ld x0 (batchIn (member g n))) i
  unfold groupArg k0_pay14
  dsimp only at hcat ⊢
  generalize concatenate S64x2304 1 _ _ = cat at hcat ⊢
  refine (reduceIndex_eq _ _ _ _ (Shape.Reduces.fiber_r2_a0 reduces_S1024x2304_S2304 _) (fun _ => rfl)).trans ?_
  refine congrArg (fun f => BitVec.ofNat 32 (leastArg f).val) (funext fun c => ?_)
  pointwise [k0_pay5, k0_pay6, k0_pay7, hcat, batchIn, h0, h1, sqDist, sum_double]

/-- What the body stores for batch `b` is `nearest` along the batch's rows. -/
theorem stored_apply (x0 : Vec Ideal S16x64x576 .f32) (x1 : Vec Ideal S64x1024 .f32) (X : FVec Ideal S16x576x64 .f32)
    (C : FVec Ideal S1024x64 .f32) (h0 : ∀ b k r, x0 (ix3 b k r) = X (ix3 b r k)) (h1 : ∀ k c, x1 (ix2 k c) = C (ix2 c k))
    (b : Fin 16) (x : S1x1x576.Idx) : stored x0 x1 b x = nearest X C b (x 2) := by
  have hb : member ⟨b.val / 4, by omega⟩ ⟨b.val % 4, by omega⟩ = b := Fin.ext (Nat.div_add_mod b.val 4)
  have h := groupArg_apply x0 x1 X C h0 h1 ⟨b.val / 4, by omega⟩ ⟨b.val % 4, by omega⟩ (x 2)
  rw [hb] at h
  unfold stored
  pointwise
  exact h

/-- The output block after the body holds `nearest` at every index. -/
theorem out_apply (x0 : Vec Ideal S16x64x576 .f32) (x1 : Vec Ideal S64x1024 .f32) (X : FVec Ideal S16x576x64 .f32)
    (C : FVec Ideal S1024x64 .f32) (h0 : ∀ b k r, x0 (ix3 b k r) = X (ix3 b r k)) (h1 : ∀ k c, x1 (ix2 k c) = C (ix2 c k))
    (y : S16x1x576.Idx) : out0_2 x0 x1 y = nearest X C (y 0) (y 2) := by
  rw [out_eq]
  refine View.canon_apply_of_pieces (Val := Elt Ideal) (e := .i32) (fun y : S16x1x576.Idx => nearest X C (y 0) (y 2)) _ ?_ y ?_
  · intro p hp x
    obtain ⟨b, rfl⟩ := List.mem_ofFn.mp hp
    refine (stored_apply x0 x1 X C h0 h1 b.rev x).trans (congrArg₂ (nearest X C) (Fin.ext ?_) (Fin.ext ?_))
    · have hx : (x 0).val < 1 := (x 0).isLt
      show b.rev.val = b.rev.val + 1 * (x 0).val
      omega
    · show (x 2).val = 0 + 1 * (x 2).val
      omega
  · have hy : (y 0).val < 16 := (y 0).isLt
    refine ⟨_, List.mem_ofFn.mpr ⟨(⟨(y 0).val, hy⟩ : Fin 16).rev, rfl⟩, ?_⟩
    rw [Fin.rev_rev]
    unfold batchOut
    rw [Rect.mem_set_unit]
    intro a
    match a with
    | ⟨0, _⟩ => exact ⟨le_rfl, Nat.lt_succ_self _⟩
    | ⟨1, _⟩ => exact ⟨Nat.zero_le _, (Nat.zero_add 1).symm ▸ (y 1).isLt⟩
    | ⟨2, _⟩ => exact ⟨Nat.zero_le _, (Nat.zero_add 576).symm ▸ (y 2).isLt⟩

end Cert.KernelIdeal.Block

end
-- ==== Proof.KernelValue.lean ====
/-
  What the kernel's result array holds after the run: the one grid point's output block is the whole array, and the line
  after the region drops its unit axis.
-/
module

public import Idealize.ShloMosaic.Lib.Pipeline.ValueKit
public import Idealize.ShloMosaic.Lib.Claim
public import proofs.«01_k».proof.Proof.KernelBlock

@[expose] public section

set_option maxRecDepth 16384

noncomputable section

set_option Elab.async false

namespace Cert.KernelIdeal.ArrayValue

open Idealize.ShloMosaic Idealize.ShloMosaic.TcCoe Idealize.SL.Sem
open Cert.KernelIdeal Cert.KernelIdeal.Gen Cert.Distance

variable (m : (ℓ : Loc nD τ sig) → Buf (Elt Ideal) ℓ)

/-- The region finds the first argument with its last two axes exchanged. -/
theorem entry_x (c : Dev nD) : V m c main_v0
    = transpose S16x64x576 [0, 2, 1] (m ((c : Thread nD τ).loc main_arg0)) transposes_S16x576x64_S16x64x576_0_2_1 := by
  simp only [V, V0, hostOps0, List.flatten_cons, List.flatten_nil, List.append_nil]
  after_results

/-- The region finds the second argument transposed. -/
theorem entry_c (c : Dev nD) : V m c main_v1
    = transpose S64x1024 [1, 0] (m ((c : Thread nD τ).loc main_arg1)) transposes_S1024x64_S64x1024_1_0 := by
  simp only [V, V0, hostOps0, List.flatten_cons, List.flatten_nil, List.append_nil]
  after_results

/-- The one grid point takes each input array whole. -/
theorem index_zero : (∀ a, win0_0.index t0_0 a = 0) ∧ ∀ a, win0_1.index t0_0 a = 0 := by decide +kernel

/-- The kernel's first input block is the first argument with its last two axes exchanged. -/
theorem block_x (c : Dev nD) (b : Fin 16) (k : Fin 64) (r : Fin 576) :
    iblk m c 0 t0_0 (ix3 b k r) = m ((c : Thread nD τ).loc main_arg0) (ix3 b r k) := by
  have h : iblk m c 0 t0_0 (ix3 b k r) = V m c main_v0 (ix3 b k r) := by
    blk_ext [iblk, index_zero.1]
  rw [h, entry_x]
  pointwise

/-- The kernel's second input block is the second argument transposed. -/
theorem block_c (c : Dev nD) (k : Fin 64) (q : Fin 1024) :
    iblk m c 1 t0_0 (ix2 k q) = m ((c : Thread nD τ).loc main_arg1) (ix2 q k) := by
  have h : iblk m c 1 t0_0 (ix2 k q) = V m c main_v1 (ix2 k q) := by
    blk_ext [iblk, index_zero.2]
  rw [h, entry_c]
  pointwise

/-- The kernel's output array after the region. -/
theorem array_eq (c : Dev nD) : (dats m 0 c).arrAt 2 cfg0.N = fun y : S16x1x576.Idx =>
    nearest (m ((c : Thread nD τ).loc main_arg0)) (m ((c : Thread nD τ).loc main_arg1)) (y 0) (y 2) := by
  refine (dats m 0 c).arrAt_eq_of_after_last 2 t0_0 (by decide +kernel) _ fun j => ?_
  blk_simp
  rw [after0_2]
  exact Block.out_apply _ _ _ _ (block_x m c) (block_c m c) j

/-- The kernel's result after the run: `nearest` of the two arguments, at every row of every batch. -/
theorem result_eq (c : Dev nD) :
    Pipeline.afterTail₀ cfgs (dats m) 0 (V0 m) [hostOps1] c main_v3 = fun j : S16x576.Idx =>
      nearest (m ((c : Thread nD τ).loc main_arg0)) (m ((c : Thread nD τ).loc main_arg1)) (j 0) (j 1) := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.devRef .tc main_v2)
      = _ := (Pipeline.withArrays_arr spec0 winFacts0.arr_inj c (V0 m c) _ 2).trans (array_eq m c)
  rw [h]
  funext j
  show shapeCast S16x576 _ shapeCasts_S16x1x576_S16x576 j = _
  pointwise

end Cert.KernelIdeal.ArrayValue

end
-- ==== Proof.lean ====
/-
  The proof of `Cert.Claim`: the frames of the kernel and of both idealized programs, that idealizing preserves the
  kernel, and that the idealized kernel and the idealized reference compute the same indices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.RefValue
public import proofs.«01_k».proof.Proof.KernelValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The idealized reference runs to the end, and leaves every semaphore at zero. -/
theorem frame_r : Cert.quiescent_ReferenceIdeal := by
  intro m g _
  hlo_run
  · exact fun _ => ⟨trivial, trivial⟩
  · exact sem_eq_zero_of_no_sems (sig := Cert.ReferenceIdeal.sig) (by decide) _

/-- The idealized kernel and the idealized reference hold the same result: the index of each row's nearest centroid, the
    least such index where several are nearest. -/
theorem algebraic : Cert.algebraic_KernelIdeal_ReferenceIdeal := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
  · hlo_run
    refine Eq.trans ?_ (Cert.KernelIdeal.ArrayValue.result_eq m c).symm
    exact Cert.ReferenceIdeal.RefValue.result_eq (m (c.tc.loc Cert.KernelIdeal.main_arg0))
      (m (c.tc.loc Cert.KernelIdeal.main_arg1))

/-- The whole certificate. -/
theorem claim : Cert.Claim :=
  ⟨Cert.Kernel.Gen.facts, Cert.KernelIdeal.Gen.facts, Cert.ReferenceIdeal.Gen.facts, Cert.Pre_no_tie.Gen.facts,
    fun m g _ => Cert.Kernel.Gen.frame m g, fun m g _ => Cert.Kernel.Gen.frame m g, fun m g _ => Cert.KernelIdeal.Gen.frame m g,
    frame_r, fun m g _ => frame_r m g trivial, trivial, algebraic⟩

end Cert.Proof

end
